-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x3072 : Shape := ⟨3, ![8, 1024, 3072]⟩
abbrev S384x10240 : Shape := ⟨2, ![384, 10240]⟩
abbrev S_ : Shape := ⟨0, ![]⟩
abbrev S1 : Shape := ⟨1, ![1]⟩
abbrev S8192x3072 : Shape := ⟨2, ![8192, 3072]⟩
abbrev S8192x10240 : Shape := ⟨2, ![8192, 10240]⟩
abbrev S512x3072 : Shape := ⟨2, ![512, 3072]⟩
abbrev S384x2048 : Shape := ⟨2, ![384, 2048]⟩
abbrev S512x2048 : Shape := ⟨2, ![512, 2048]⟩
abbrev S3072x2048 : Shape := ⟨2, ![3072, 2048]⟩
abbrev S32x256 : Shape := ⟨2, ![32, 256]⟩
abbrev S16x256 : Shape := ⟨2, ![16, 256]⟩
abbrev S8x1024x10240 : Shape := ⟨3, ![8, 1024, 10240]⟩

abbrev nBuf : Space → Nat
  | .hbm => 8
  | .vmem => 9
  | .smem => 1
  | _ => 0

abbrev bufTy : (tb : Table) → Fin (tcTables nBuf tb) → BufTy
  | .hbm, ⟨0, _⟩ => ⟨S8x1024x3072, .bf16⟩
  | .hbm, ⟨1, _⟩ => ⟨S384x10240, .i8⟩
  | .hbm, ⟨2, _⟩ => ⟨S384x10240, .i8⟩
  | .hbm, ⟨3, _⟩ => ⟨S_, .f32⟩
  | .hbm, ⟨4, _⟩ => ⟨S1, .f32⟩
  | .hbm, ⟨5, _⟩ => ⟨S8192x3072, .bf16⟩
  | .hbm, ⟨6, _⟩ => ⟨S8192x10240, .bf16⟩
  | .hbm, ⟨7, _⟩ => ⟨S8x1024x10240, .bf16⟩
  | .local _ .vmem, ⟨0, _⟩ => ⟨S512x3072, .bf16⟩
  | .local _ .vmem, ⟨1, _⟩ => ⟨S512x3072, .bf16⟩
  | .local _ .vmem, ⟨2, _⟩ => ⟨S384x2048, .i8⟩
  | .local _ .vmem, ⟨3, _⟩ => ⟨S384x2048, .i8⟩
  | .local _ .vmem, ⟨4, _⟩ => ⟨S384x2048, .i8⟩
  | .local _ .vmem, ⟨5, _⟩ => ⟨S384x2048, .i8⟩
  | .local _ .vmem, ⟨6, _⟩ => ⟨S512x2048, .bf16⟩
  | .local _ .vmem, ⟨7, _⟩ => ⟨S512x2048, .bf16⟩
  | .local _ .vmem, ⟨8, _⟩ => ⟨S3072x2048, .bf16⟩
  | .local _ .smem, ⟨0, _⟩ => ⟨S1, .f32⟩
  | _, _ => ⟨S8x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![5, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x1024x3072 : Shape := ⟨3, ![8, 1024, 3072]⟩
abbrev S384x10240 : Shape := ⟨2, ![384, 10240]⟩
abbrev S_ : Shape := ⟨0, ![]⟩
abbrev S8 : Shape := ⟨1, ![8]⟩
abbrev S8x1x1 : Shape := ⟨3, ![8, 1, 1]⟩
abbrev S1x384x10240 : Shape := ⟨3, ![1, 384, 10240]⟩
abbrev S8x384x10240 : Shape := ⟨3, ![8, 384, 10240]⟩
abbrev S8x1024x8x384 : Shape := ⟨4, ![8, 1024, 8, 384]⟩
abbrev S8x1024x10240 : Shape := ⟨3, ![8, 1024, 10240]⟩

abbrev nBuf : Space → Nat
  | .hbm => 35
  | .vmem => 0
  | .smem => 0
  | _ => 0

abbrev bufTy : (tb : Table) → Fin (tcTables nBuf tb) → BufTy
  | .hbm, ⟨0, _⟩ => ⟨S8x1024x3072, .bf16⟩
  | .hbm, ⟨1, _⟩ => ⟨S384x10240, .i8⟩
  | .hbm, ⟨2, _⟩ => ⟨S384x10240, .i8⟩
  | .hbm, ⟨3, _⟩ => ⟨S_, .f32⟩
  | .hbm, ⟨4, _⟩ => ⟨S8, .i32⟩
  | .hbm, ⟨5, _⟩ => ⟨S8x1x1, .i32⟩
  | .hbm, ⟨6, _⟩ => ⟨S384x10240, .i32⟩
  | .hbm, ⟨7, _⟩ => ⟨S1x384x10240, .i32⟩
  | .hbm, ⟨8, _⟩ => ⟨S8x384x10240, .i32⟩
  | .hbm, ⟨9, _⟩ => ⟨S8x384x10240, .i32⟩
  | .hbm, ⟨10, _⟩ => ⟨S8x384x10240, .i32⟩
  | .hbm, ⟨11, _⟩ => ⟨S_, .i32⟩
  | .hbm, ⟨12, _⟩ => ⟨S8x384x10240, .i32⟩
  | .hbm, ⟨13, _⟩ => ⟨S8x384x10240, .i32⟩
  | .hbm, ⟨14, _⟩ => ⟨S384x10240, .i32⟩
  | .hbm, ⟨15, _⟩ => ⟨S1x384x10240, .i32⟩
  | .hbm, ⟨16, _⟩ => ⟨S8x384x10240, .i32⟩
  | .hbm, ⟨17, _⟩ => ⟨S8x384x10240, .i32⟩
  | .hbm, ⟨18, _⟩ => ⟨S8x384x10240, .i32⟩
  | .hbm, ⟨19, _⟩ => ⟨S_, .i32⟩
  | .hbm, ⟨20, _⟩ => ⟨S8x384x10240, .i32⟩
  | .hbm, ⟨21, _⟩ => ⟨S8x384x10240, .i32⟩
  | .hbm, ⟨22, _⟩ => ⟨S_, .i32⟩
  | .hbm, ⟨23, _⟩ => ⟨S8x384x10240, .i32⟩
  | .hbm, ⟨24, _⟩ => ⟨S8x384x10240, .i32⟩
  | .hbm, ⟨25, _⟩ => ⟨S_, .i32⟩
  | .hbm, ⟨26, _⟩ => ⟨S8x384x10240, .i32⟩
  | .hbm, ⟨27, _⟩ => ⟨S8x384x10240, .i32⟩
  | .hbm, ⟨28, _⟩ => ⟨S8x384x10240, .i32⟩
  | .hbm, ⟨29, _⟩ => ⟨S8x384x10240, .bf16⟩
  | .hbm, ⟨30, _⟩ => ⟨S8x1024x8x384, .bf16⟩
  | .hbm, ⟨31, _⟩ => ⟨S8x1024x10240, .f32⟩
  | .hbm, ⟨32, _⟩ => ⟨S8x1024x10240, .f32⟩
  | .hbm, ⟨33, _⟩ => ⟨S8x1024x10240, .f32⟩
  | .hbm, ⟨34, _⟩ => ⟨S8x1024x10240, .bf16⟩
  | _, _ => ⟨S8x1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.PanelPieces.lean ====
/-
  The weight panel the kernel unpacks at the first row block of each column block: 768 stores of a 32x256 block each
  (eight column strips of 256, twelve row strips of 32, eight bits), named here as ONE store at a generic store number.
-/
module

public import proofs.«01_k».proof.Proof.Gen.KernelIdeal.Frame
public import Idealize.ShloMosaic.Lib.Pipeline.Value
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-- The packed words of bit `j` of a 32x256 block: two rows of 16-bit lanes to a 32-bit word. The nonzero bit is moved to
    bit 14 of each half and `0x4000 - 0x0080 = 0x3F80` made of it; the sign bit is moved to bit 15 of each half. -/
def blockWords (j : ℕ) (nz sg : Vec F S32x256 .i8) : IVec S16x256 32 :=
  let nz32 : IVec S16x256 32 := bitcast S16x256 32 (extui 16 nz natLt_8_16) bitcasts_S32x256_w16_S16x256_w32
  let neg32 : IVec S16x256 32 := bitcast S16x256 32 (extui 16 (andi nz sg) natLt_8_16) bitcasts_S32x256_w16_S16x256_w32
  let top : IVec S16x256 32 := andi (shli nz32 (broadcast S16x256 (BitVec.ofNat 32 (14 - j)))) (broadcast S16x256 1073758208#32)
  ori (subi top (shrui top (broadcast S16x256 7#32)))
    (andi (shli neg32 (broadcast S16x256 (BitVec.ofNat 32 (15 - j)))) (broadcast S16x256 2147516416#32))

/-- The bf16 weights of bit `j` of a 32x256 block, as the kernel's body computes them from the two bit planes. -/
def blockTrits (j : ℕ) (nz sg : Vec F S32x256 .i8) : FVec F S32x256 .bf16 :=
  shapeCast S32x256 (bitcastToFloat .bf16 (bitcast S32x256 16 (blockWords j nz sg) bitcasts_S16x256_w32_S32x256_w16))
    shapeCasts_S32x256_S32x256

/-- Store `n` reads a 32x256 block inside the bit planes. -/
theorem inb_src (n : ℕ) (hn : n < 768) : ∀ a : Fin S384x2048.rank,
    (![32 * (n / 8 % 12), 256 * (n / 96)] : Fin S384x2048.rank → ℕ) a + S32x256.size a ≤ S384x2048.size a := by
  intro a
  match a with
  | ⟨0, _⟩ => show 32 * (n / 8 % 12) + 32 ≤ 384; omega
  | ⟨1, _⟩ => show 256 * (n / 96) + 256 ≤ 2048; omega

/-- Store `n` writes a 32x256 block inside the panel. -/
theorem inb_dst (n : ℕ) (hn : n < 768) : ∀ a : Fin S3072x2048.rank,
    (![384 * (n % 8) + 32 * (n / 8 % 12), 256 * (n / 96)] : Fin S3072x2048.rank → ℕ) a + S32x256.size a ≤ S3072x2048.size a := by
  intro a
  match a with
  | ⟨0, _⟩ => show 384 * (n % 8) + 32 * (n / 8 % 12) + 32 ≤ 3072; omega
  | ⟨1, _⟩ => show 256 * (n / 96) + 256 ≤ 2048; omega

/-- The block of a bit plane that store `n` reads: row strip `n / 8 % 12`, column strip `n / 96`. -/
abbrev srcRect (n : ℕ) (hn : n < 768) : Rect S384x2048 :=
  Rect.unit (s := S384x2048) ![32 * (n / 8 % 12), 256 * (n / 96)] S32x256.size (inb_src n hn)

/-- The block of the panel that store `n` writes: the rows of bit `n % 8`, at the same strips. -/
abbrev dstRect (n : ℕ) (hn : n < 768) : Rect S3072x2048 :=
  Rect.unit (s := S3072x2048) ![384 * (n % 8) + 32 * (n / 8 % 12), 256 * (n / 96)] S32x256.size (inb_dst n hn)

/-- Store `n` of the unpacking: its block of the panel with the weights written there. -/
def panelPiece (arg4 : Memref sig .tc .vmem S384x2048 .i8) (harg4 : arg4.IsWhole)
    (arg5 : Memref sig .tc .vmem S384x2048 .i8) (harg5 : arg5.IsWhole) (x2 x3 : Vec F S384x2048 .i8)
    (n : ℕ) (hn : n < 768) : View.Piece (Elt F) S3072x2048 .bf16 :=
  ⟨dstRect n hn, blockTrits (n % 8)
    (View.readAt (Elt F) arg4.view (srcRect n hn).toLoadRect (harg4.unread x2))
    (View.readAt (Elt F) arg5.view (srcRect n hn).toLoadRect (harg5.unread x3))⟩

/-- The first `n` stores of the unpacking, the last made first. -/
def panelPieces (arg4 : Memref sig .tc .vmem S384x2048 .i8) (harg4 : arg4.IsWhole)
    (arg5 : Memref sig .tc .vmem S384x2048 .i8) (harg5 : arg5.IsWhole) (x2 x3 : Vec F S384x2048 .i8) :
    (n : ℕ) → n ≤ 768 → List (View.Piece (Elt F) S3072x2048 .bf16)
  | 0, _ => []
  | n + 1, h => panelPiece arg4 harg4 arg5 harg5 x2 x3 n h :: panelPieces arg4 harg4 arg5 harg5 x2 x3 n (Nat.le_of_succ_le h)

/-- Every store of the list is `panelPiece` at some number. -/
theorem mem_panelPieces (arg4 : Memref sig .tc .vmem S384x2048 .i8) (harg4 : arg4.IsWhole)
    (arg5 : Memref sig .tc .vmem S384x2048 .i8) (harg5 : arg5.IsWhole) (x2 x3 : Vec F S384x2048 .i8) :
    ∀ (n : ℕ) (h : n ≤ 768) (p : View.Piece (Elt F) S3072x2048 .bf16), p ∈ panelPieces arg4 harg4 arg5 harg5 x2 x3 n h →
      ∃ (k : ℕ) (hk : k < 768), p = panelPiece arg4 harg4 arg5 harg5 x2 x3 k hk
  | 0, _, _, hp => absurd hp List.not_mem_nil
  | n + 1, h, p, hp => by
    rcases List.mem_cons.mp hp with rfl | hp
    · exact ⟨n, h, rfl⟩
    · exact mem_panelPieces arg4 harg4 arg5 harg5 x2 x3 n _ p hp

set_option maxHeartbeats 4000000 in
/-- The stores the body makes into the panel, where it unpacks, are these 768. -/
theorem panel_stores (c : Dev nD) (i : grid0.Coords) (arg2 : Memref sig .tc .smem S1 .f32) (harg2 : arg2.IsWhole)
    (arg3 : Memref sig .tc .vmem S512x3072 .bf16) (harg3 : arg3.IsWhole) (arg4 : Memref sig .tc .vmem S384x2048 .i8) (harg4 : arg4.IsWhole)
    (arg5 : Memref sig .tc .vmem S384x2048 .i8) (harg5 : arg5.IsWhole) (arg6 : Memref sig .tc .vmem S512x2048 .bf16) (harg6 : arg6.IsWhole)
    (arg7 : Memref sig .tc .vmem S3072x2048 .bf16) (harg7 : arg7.IsWhole) (hc0 : cond0_0 i)
    (x0 : Vec F S1 .f32) (x1 : Vec F S512x3072 .bf16) (x2 : Vec F S384x2048 .i8) (x3 : Vec F S384x2048 .i8) :
    (kernelRun0_A c i arg2 harg2 arg3 harg3 arg4 harg4 arg5 harg5 arg6 harg6 arg7 harg7 hc0 x0 x1 x2 x3).2.1
      = panelPieces arg4 harg4 arg5 harg5 x2 x3 768 (Nat.le_refl _) := by
  unfold kernelRun0_A
  dsimp only
  sl_unfold_words
  sl_kernel_rfl

end Cert.KernelIdeal.Value

end
-- ==== Proof.Trit.lean ====
/-
  One ternary weight from the two bits that hold it: the value, the packed words the kernel computes it in (two
  16-bit lanes to a 32-bit word), and the integer word the reference computes it in.
-/
module

public import Idealize.ShloMosaic.PureOps.Ideal
public import Idealize.ShloMosaic.Lib.IdealHost

@[expose] public section

noncomputable section

namespace Cert.Trit

open Idealize.ShloMosaic

/-- The weight of a nonzero bit and a sign bit: 0, 1 or -1. -/
def value (nz sg : Bool) : EReal := if nz then (if sg then -1 else 1) else 0

/-- Its bf16 pattern. -/
def pattern (nz sg : Bool) : BitVec 16 := if nz then (if sg then 0xBF80#16 else 0x3F80#16) else 0#16

/-- The pattern denotes the weight. -/
theorem ofBits_pattern (nz sg : Bool) : Ideal.ofBits .bf16 (pattern nz sg) = value nz sg := by
  cases nz
  · exact Ideal.ofBits_zero_bf16
  · cases sg
    · exact Ideal.ofBits_one_bf16
    · refine Ideal.ofBits_neg_one_bf16.trans ?_
      show ((-(1 : ℝ) : ℝ) : EReal) = -1
      rw [EReal.coe_neg, EReal.coe_one]

/-- A bit `b` at position `q` of a 16-bit lane, all other bits clear. -/
def lane (q : ℕ) (b : Bool) : BitVec 16 := if b then BitVec.twoPow 16 q else 0#16

/-- Masking a 32-bit word to bit `q` of each 16-bit half leaves those two bits. -/
theorem and_lanes (y : BitVec 32) (q : ℕ) (hq : q < 16) :
    y &&& (BitVec.twoPow 16 q ++ BitVec.twoPow 16 q) = lane q (y.getLsbD (q + 16)) ++ lane q (y.getLsbD q) := by
  apply BitVec.eq_of_getLsbD_eq
  intro i hi
  have hl : ∀ (b : Bool) (k : ℕ), k < 16 → (lane q b).getLsbD k = (b && decide (q = k)) := by
    intro b k hk
    cases b <;> simp [lane, BitVec.getLsbD_twoPow, hk, hq, eq_comm]
  simp only [BitVec.getLsbD_and, BitVec.getLsbD_append]
  by_cases h16 : i < 16
  · rw [if_pos h16, if_pos h16, hl _ _ h16, BitVec.getLsbD_twoPow]
    by_cases e : q = i
    · subst e; simp [hq]
    · simp [e]
  · rw [if_neg h16, if_neg h16, hl _ _ (by omega), BitVec.getLsbD_twoPow]
    by_cases e : q = i - 16
    · subst e
      rw [show i - 16 + 16 = i from by omega]
      simp [hq]
    · simp [e]

/-- Bit `j` of a byte pair, shifted left by `q - j` and masked to bit `q` of each half: bit `j` of each byte, at `q`. -/
theorem shift_mask (hi lo : BitVec 8) (j q : ℕ) (hj : j < 8) (hjq : j ≤ q) (hq : q < 16) :
    IntOp.andi (IntOp.shli .vector (hi.setWidth 16 ++ lo.setWidth 16 : BitVec 32) (BitVec.ofNat 32 (q - j)))
        (BitVec.twoPow 16 q ++ BitVec.twoPow 16 q)
      = lane q (hi.getLsbD j) ++ lane q (lo.getLsbD j) := by
  have hn : (BitVec.ofNat 32 (q - j)).toNat = q - j := by
    rw [BitVec.toNat_ofNat]; exact Nat.mod_eq_of_lt (by omega)
  unfold IntOp.andi IntOp.shli
  rw [if_pos (by rw [hn]; omega), and_lanes _ q hq]
  have e : ∀ k, k < 32 → q - j ≤ k →
      ((hi.setWidth 16 ++ lo.setWidth 16 : BitVec 32) <<< (BitVec.ofNat 32 (q - j))).getLsbD k
        = (hi.setWidth 16 ++ lo.setWidth 16 : BitVec 32).getLsbD (k - (q - j)) := by
    intro k hk hk'
    rw [BitVec.shiftLeft_eq', hn, BitVec.getLsbD_shiftLeft]
    simp [hk, hk']
  rw [e _ (by omega) (by omega), e _ (by omega) (by omega), show q + 16 - (q - j) = j + 16 from by omega,
    show q - (q - j) = j from by omega, BitVec.getLsbD_append, BitVec.getLsbD_append, if_neg (by omega), if_pos (by omega)]
  simp only [Nat.add_sub_cancel, BitVec.getLsbD_setWidth]
  have h16 : j < 16 := by omega
  simp [h16]

/-- The packed word of bit `j`, as the kernel computes it from the nonzero bytes and the negative bytes of two rows. -/
def packed (j : ℕ) (nz neg : BitVec 32) : BitVec 32 :=
  IntOp.ori
    (IntOp.subi (IntOp.andi (IntOp.shli .vector nz (BitVec.ofNat 32 (14 - j))) 1073758208#32)
      (IntOp.shrui .vector (IntOp.andi (IntOp.shli .vector nz (BitVec.ofNat 32 (14 - j))) 1073758208#32) 7#32))
    (IntOp.andi (IntOp.shli .vector neg (BitVec.ofNat 32 (15 - j))) 2147516416#32)

/-- Its two halves are the patterns of the two rows' weights: nothing borrows or carries from one half to the other. -/
theorem packed_eq (j : ℕ) (hj : j < 8) (nhi nlo shi slo : BitVec 8) :
    packed j (nhi.setWidth 16 ++ nlo.setWidth 16 : BitVec 32)
        ((IntOp.andi nhi shi).setWidth 16 ++ (IntOp.andi nlo slo).setWidth 16 : BitVec 32)
      = pattern (nhi.getLsbD j) (shi.getLsbD j) ++ pattern (nlo.getLsbD j) (slo.getLsbD j) := by
  unfold packed
  rw [show (1073758208#32 : BitVec 32) = BitVec.twoPow 16 14 ++ BitVec.twoPow 16 14 from by decide,
    show (2147516416#32 : BitVec 32) = BitVec.twoPow 16 15 ++ BitVec.twoPow 16 15 from by decide,
    shift_mask nhi nlo j 14 hj (by omega) (by decide), shift_mask _ _ j 15 hj (by omega) (by decide)]
  unfold IntOp.andi
  rw [BitVec.getLsbD_and, BitVec.getLsbD_and]
  generalize nhi.getLsbD j = a, nlo.getLsbD j = b, shi.getLsbD j = c, slo.getLsbD j = d
  revert a b c d
  decide

/-- Bit `j` of a byte, as the reference takes it: the byte widened, shifted right by `j`, its lowest bit kept. -/
theorem shift_and_one : ∀ (j : Fin 8) (b : BitVec 8),
    IntOp.andi (IntOp.shrsi .host (b.setWidth 32) (BitVec.ofNat 32 j.val)) 1#32 = if b.getLsbD j.val then 1#32 else 0#32 := by
  decide +kernel

/-- The reference's integer word `nz * (1 - 2 * sg)`, read as a number, is the weight. -/
theorem word_value (j : Fin 8) (n s : BitVec 8) :
    (((IntOp.muli (IntOp.andi (IntOp.shrsi .host (n.setWidth 32) (BitVec.ofNat 32 j.val)) 1#32)
        (IntOp.subi 1#32 (IntOp.muli 2#32 (IntOp.andi (IntOp.shrsi .host (s.setWidth 32) (BitVec.ofNat 32 j.val)) 1#32)))).toInt : ℝ) : EReal)
      = value (n.getLsbD j.val) (s.getLsbD j.val) := by
  rw [shift_and_one, shift_and_one]
  generalize n.getLsbD j.val = a, s.getLsbD j.val = b
  cases a <;> cases b
  · rw [show (IntOp.muli (if false = true then 1#32 else 0#32) (IntOp.subi 1#32 (IntOp.muli 2#32 (if false = true then 1#32 else 0#32)))).toInt = 0 from by decide]
    simp [value]
  · rw [show (IntOp.muli (if false = true then 1#32 else 0#32) (IntOp.subi 1#32 (IntOp.muli 2#32 (if true = true then 1#32 else 0#32)))).toInt = 0 from by decide]
    simp [value]
  · rw [show (IntOp.muli (if true = true then 1#32 else 0#32) (IntOp.subi 1#32 (IntOp.muli 2#32 (if false = true then 1#32 else 0#32)))).toInt = 1 from by decide]
    simp [value]
  · rw [show (IntOp.muli (if true = true then 1#32 else 0#32) (IntOp.subi 1#32 (IntOp.muli 2#32 (if true = true then 1#32 else 0#32)))).toInt = -1 from by decide]
    show (((-1 : ℤ) : ℝ) : EReal) = -1
    push_cast
    rfl

end Cert.Trit

end
-- ==== Proof.Panel.lean ====
/-
  What the unpacked weight panel holds, at the exact reading: row `384 j + r`, column `n` is the weight of bit `j` of row `r`,
  column `n` of the two bit planes.
-/
module

public import proofs.«01_k».proof.Proof.PanelPieces
public import proofs.«01_k».proof.Proof.Trit
public import Idealize.ShloMosaic.Lib.BitcastPair

@[expose] public section

noncomputable section

namespace Cert.KernelIdeal.Value

open Cert.KernelIdeal Cert.KernelIdeal.Gen Idealize.ShloMosaic Idealize.ShloMosaic.TcCoe Idealize.SL.Sem

/-- The low half of two joined halves. -/
theorem low_half (hi lo : BitVec 16) : (hi ++ lo).extractLsb' 0 16 = lo := by
  ext i h; rw [BitVec.getElem_extractLsb', BitVec.getLsbD_append]; simp [h]

/-- The high half of two joined halves. -/
theorem high_half (hi lo : BitVec 16) : (hi ++ lo).extractLsb' 16 16 = hi := by
  ext i h; rw [BitVec.getElem_extractLsb', BitVec.getLsbD_append]; simp [h]

/-- Every word of a block holds the patterns of two rows' weights, the even row in the low half. -/
theorem blockWords_apply (j : ℕ) (hj : j < 8) (nz sg : Vec Ideal S32x256 .i8) (k : S16x256.Idx) (lo hi : S32x256.Idx)
    (hlo : (lo 0).val = 2 * (k 0).val) (hlo' : (lo 1).val = (k 1).val)
    (hhi : (hi 0).val = 2 * (k 0).val + 1) (hhi' : (hi 1).val = (k 1).val) :
    blockWords (F := Ideal) j nz sg k
      = Trit.pattern ((nz hi).getLsbD j) ((sg hi).getLsbD j) ++ Trit.pattern ((nz lo).getLsbD j) ((sg lo).getLsbD j) := by
  have el : ∀ h, bitcasts_S32x256_w16_S16x256_w32.srcIdx k (2 * S16x256.row k) h = lo := by
    intro h; funext a; apply Fin.ext
    match a with
    | ⟨0, _⟩ => exact hlo.symm
    | ⟨1, _⟩ => exact hlo'.symm
  have eh : ∀ h, bitcasts_S32x256_w16_S16x256_w32.srcIdx k (2 * S16x256.row k + 1) h = hi := by
    intro h; funext a; apply Fin.ext
    match a with
    | ⟨0, _⟩ => exact hhi.symm
    | ⟨1, _⟩ => exact hhi'.symm
  show Trit.packed j (bitcast S16x256 32 (extui 16 nz natLt_8_16) bitcasts_S32x256_w16_S16x256_w32 k)
    (bitcast S16x256 32 (extui 16 (andi nz sg) natLt_8_16) bitcasts_S32x256_w16_S16x256_w32 k) = _
  rw [bitcast_16_32, bitcast_16_32, el, eh]
  exact Trit.packed_eq j hj _ _ _ _

/-- The weights of bit `j` of a block: at each place, the weight of bit `j` of the two bytes there. -/
theorem blockTrits_apply (j : ℕ) (hj : j < 8) (nz sg : Vec Ideal S32x256 .i8) (y : S32x256.Idx) :
    blockTrits (F := Ideal) j nz sg y = Trit.value ((nz y).getLsbD j) ((sg y).getLsbD j) := by
  have hy : (y 0).val < 32 := (y 0).isLt
  have hy1 : (y 1).val < 256 := (y 1).isLt
  unfold blockTrits
  rw [shapeCast_self]
  show Ideal.ofBits .bf16 (bitcast S32x256 16 (blockWords j nz sg) bitcasts_S16x256_w32_S32x256_w16 y) = _
  rw [bitcast_32_16, ← Trit.ofBits_pattern]
  refine congrArg (Ideal.ofBits .bf16) ?_
  have hr : S32x256.row y = (y 0).val := rfl
  rcases Nat.mod_two_eq_zero_or_one (y 0).val with h | h
  · rw [blockWords_apply j hj nz sg _ y (fun a => match a with | ⟨0, _⟩ => ⟨(y 0).val + 1, by show _ < 32; omega⟩ | ⟨1, _⟩ => y 1)
      (by show (y 0).val = 2 * ((y 0).val / 2); omega) rfl (by show (y 0).val + 1 = 2 * ((y 0).val / 2) + 1; omega) rfl, hr, h]
    exact low_half _ _
  · rw [blockWords_apply j hj nz sg _ (fun a => match a with | ⟨0, _⟩ => ⟨(y 0).val - 1, by show _ < 32; omega⟩ | ⟨1, _⟩ => y 1) y
      (by show (y 0).val - 1 = 2 * ((y 0).val / 2); omega) rfl (by show (y 0).val = 2 * ((y 0).val / 2) + 1; omega) rfl, hr, h]
    exact high_half _ _

/-- The panel: row `k` holds bit `k / 384` of row `k % 384` of the bit planes. -/
def panel (x2 x3 : Vec Ideal S384x2048 .i8) : Vec Ideal S3072x2048 .bf16 := fun y =>
  let src : S384x2048.Idx := fun a => match a with
    | ⟨0, _⟩ => ⟨(y 0).val % 384, Nat.mod_lt _ (by decide)⟩
    | ⟨1, _⟩ => y 1
  Trit.value ((x2 src).getLsbD ((y 0).val / 384)) ((x3 src).getLsbD ((y 0).val / 384))

/-- Every store of the unpacking writes its block of the panel. -/
theorem panelPiece_apply (arg4 : Memref sig .tc .vmem S384x2048 .i8) (harg4 : arg4.IsWhole)
    (arg5 : Memref sig .tc .vmem S384x2048 .i8) (harg5 : arg5.IsWhole) (x2 x3 : Vec Ideal S384x2048 .i8)
    (n : ℕ) (hn : n < 768) (x : S32x256.Idx) :
    (panelPiece (F := Ideal) arg4 harg4 arg5 harg5 x2 x3 n hn).2 x = panel x2 x3 ((dstRect n hn).emb x) := by
  have h0 : (x 0).val < 32 := (x 0).isLt
  have h1 : (x 1).val < 256 := (x 1).isLt
  refine (blockTrits_apply (n % 8) (Nat.mod_lt _ (by decide)) _ _ x).trans ?_
  rw [View.readAt_eq_ld, View.readAt_eq_ld, harg4.read_unread, harg5.read_unread]
  have e0 : ((dstRect n hn).emb x 0).val = 384 * (n % 8) + 32 * (n / 8 % 12) + 1 * (x 0).val := rfl
  have hd : ((dstRect n hn).emb x 0).val / 384 = n % 8 := by rw [e0]; omega
  have hm : ((dstRect n hn).emb x 0).val % 384 = 32 * (n / 8 % 12) + 1 * (x 0).val := by rw [e0]; omega
  have es : (srcRect n hn).emb x = fun a => match a with
      | ⟨0, _⟩ => ⟨((dstRect n hn).emb x 0).val % 384, Nat.mod_lt _ (by decide)⟩
      | ⟨1, _⟩ => (dstRect n hn).emb x 1 := by
    funext a; apply Fin.ext
    match a with
    | ⟨0, _⟩ => exact hm.symm
    | ⟨1, _⟩ => rfl
  unfold panel
  rw [hd, ← es]
  rfl

/-- So after the unpacking the panel's buffer holds `panel` of the two bit-plane blocks. -/
theorem sout_A (c : Dev nD) (i : grid0.Coords) (arg2 : Memref sig .tc .smem S1 .f32) (harg2 : arg2.IsWhole)
    (arg3 : Memref sig .tc .vmem S512x3072 .bf16) (harg3 : arg3.IsWhole) (arg4 : Memref sig .tc .vmem S384x2048 .i8) (harg4 : arg4.IsWhole)
    (arg5 : Memref sig .tc .vmem S384x2048 .i8) (harg5 : arg5.IsWhole) (arg6 : Memref sig .tc .vmem S512x2048 .bf16) (harg6 : arg6.IsWhole)
    (arg7 : Memref sig .tc .vmem S3072x2048 .bf16) (harg7 : arg7.IsWhole) (hc0 : cond0_0 i)
    (x0 : Vec Ideal S1 .f32) (x1 : Vec Ideal S512x3072 .bf16) (x2 : Vec Ideal S384x2048 .i8) (x3 : Vec Ideal S384x2048 .i8) :
    sout0_A_0 c i arg2 harg2 arg3 harg3 arg4 harg4 arg5 harg5 arg6 harg6 arg7 harg7 hc0 x0 x1 x2 x3 = panel x2 x3 := by
  funext y
  unfold sout0_A_0
  refine View.read_writes_apply_of_pieces VS0_0 _ (panel x2 x3) _ (fun p hp x => ?_) y
    (scover0_A_0 c i arg2 harg2 arg3 harg3 arg4 harg4 arg5 harg5 arg6 harg6 arg7 harg7 hc0 x0 x1 x2 x3 y)
  rw [panel_stores] at hp
  obtain ⟨k, hk, rfl⟩ := mem_panelPieces arg4 harg4 arg5 harg5 x2 x3 _ _ p hp
  exact panelPiece_apply arg4 harg4 arg5 harg5 x2 x3 k hk x

end Cert.KernelIdeal.Value

end
-- ==== Proof.Blocks.lean ====
/-
  What one grid point of the kernel leaves in its output block: the block of rows of the activations times the unpacked
  panel, times the scale — whether the point unpacks the panel itself or finds it unpacked.
-/
module

public import proofs.«01_k».proof.Proof.Panel
public import Idealize.ShloMosaic.Lib.Pipeline.Value
public import Idealize.ShloMosaic.Lib.MatmulPlain
public import Idealize.ShloMosaic.Lib.IdealHost

@[expose] public section

noncomputable section

namespace Cert.KernelIdeal.Value

open Cert.KernelIdeal Cert.KernelIdeal.Gen Idealize.ShloMosaic Idealize.ShloMosaic.TcCoe Idealize.SL.Sem

theorem hz : (![0, 0] : Fin 2 → Nat) = fun _ => 0 := funext fun a => by fin_cases a <;> rfl

theorem hz1 : (![0] : Fin 1 → Nat) = fun _ => 0 := funext fun a => by fin_cases a; rfl

variable {F : FTy → Type} [FloatOps F]

/-- The one index of the scale's block. -/
def only : S1.Idx := Shape.Idx.first (by decide)

/-- The scale, read as one scalar. -/
theorem scale_read (arg2 : Memref sig .tc .smem S1 .f32) (harg2 : arg2.IsWhole) (x0 : Vec F S1 .f32) (k : S1.Idx) :
    View.readAt (Elt F) arg2.view (Rect.unit (s := S1) ![0] S1.size inb_S1_S1_0).toLoadRect (harg2.unread x0) k = x0 only := by
  rw [View.readAt_eq_ld, harg2.read_unread, View.ld_unit_zero (S := S1) hz1]
  refine congrArg x0 (funext fun a => Fin.ext ?_)
  have h : (k a).val < 1 := by have := (k a).isLt; fin_cases a; exact this
  show (k a).val = 0
  omega

/-- A point that finds the panel unpacked leaves the product of its rows and that panel, scaled. -/
theorem out_B (c : Dev nD) (i : grid0.Coords) (arg2 : Memref sig .tc .smem S1 .f32) (harg2 : arg2.IsWhole)
    (arg3 : Memref sig .tc .vmem S512x3072 .bf16) (harg3 : arg3.IsWhole) (arg4 : Memref sig .tc .vmem S384x2048 .i8) (harg4 : arg4.IsWhole)
    (arg5 : Memref sig .tc .vmem S384x2048 .i8) (harg5 : arg5.IsWhole) (arg6 : Memref sig .tc .vmem S512x2048 .bf16) (harg6 : arg6.IsWhole)
    (arg7 : Memref sig .tc .vmem S3072x2048 .bf16) (harg7 : arg7.IsWhole) (hc0 : ¬cond0_0 i)
    (x0 : Vec F S1 .f32) (x1 : Vec F S512x3072 .bf16) (x2 : Vec F S384x2048 .i8) (x3 : Vec F S384x2048 .i8)
    (xs0 : Vec F S3072x2048 .bf16) :
    out0_B_4 c i arg2 harg2 arg3 harg3 arg4 harg4 arg5 harg5 arg6 harg6 arg7 harg7 hc0 x0 x1 x2 x3 xs0
      = k0_pay2 x1 xs0 (x0 only) := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  rw [View.canon_unit_zero hz]
  sl_unfold_words
  rw [scale_read]
  simp only [View.readAt_eq_ld, harg3.read_unread, harg7.read_unread, View.ld_unit_zero (S := S3072x2048) hz, View.ld_unit_zero (S := S512x3072) hz]

/-- The one store into the output block of a point that unpacks: its product reads back the panel the point's own stores wrote. -/
theorem out_store (c : Dev nD) (i : grid0.Coords) (arg2 : Memref sig .tc .smem S1 .f32) (harg2 : arg2.IsWhole)
    (arg3 : Memref sig .tc .vmem S512x3072 .bf16) (harg3 : arg3.IsWhole) (arg4 : Memref sig .tc .vmem S384x2048 .i8) (harg4 : arg4.IsWhole)
    (arg5 : Memref sig .tc .vmem S384x2048 .i8) (harg5 : arg5.IsWhole) (arg6 : Memref sig .tc .vmem S512x2048 .bf16) (harg6 : arg6.IsWhole)
    (arg7 : Memref sig .tc .vmem S3072x2048 .bf16) (harg7 : arg7.IsWhole) (hc0 : cond0_0 i)
    (x0 : Vec F S1 .f32) (x1 : Vec F S512x3072 .bf16) (x2 : Vec F S384x2048 .i8) (x3 : Vec F S384x2048 .i8) :
    (kernelRun0_A c i arg2 harg2 arg3 harg3 arg4 harg4 arg5 harg5 arg6 harg6 arg7 harg7 hc0 x0 x1 x2 x3).1
      = [(⟨Rect.unit (s := S512x2048) ![0, 0] S512x2048.size inb_S512x2048_S512x2048_0_0,
          k0_pay2 (View.readAt (Elt F) arg3.view (Rect.unit (s := S512x3072) ![0, 0] S512x3072.size inb_S512x3072_S512x3072_0_0).toLoadRect (harg3.unread x1))
            (arg7.view.readCov (kernelRun0_A c i arg2 harg2 arg3 harg3 arg4 harg4 arg5 harg5 arg6 harg6 arg7 harg7 hc0 x0 x1 x2 x3).2.1
              (Rect.unit (s := S3072x2048) ![0, 0] S3072x2048.size inb_S3072x2048_S3072x2048_0_0).toLoadRect)
            (View.readAt (Elt F) arg2.view (Rect.unit (s := S1) ![0] S1.size inb_S1_S1_0).toLoadRect (harg2.unread x0) (Shape.Idx.first (s := S1) (by decide)))⟩
          : View.Piece (Elt F) S512x2048 .bf16)] := by
  rw [panel_stores]
  unfold kernelRun0_A
  dsimp only
  sl_unfold_words
  sl_kernel_rfl

/-- A point that unpacks leaves the product of its rows and the panel it unpacked, scaled. -/
theorem out_A (c : Dev nD) (i : grid0.Coords) (arg2 : Memref sig .tc .smem S1 .f32) (harg2 : arg2.IsWhole)
    (arg3 : Memref sig .tc .vmem S512x3072 .bf16) (harg3 : arg3.IsWhole) (arg4 : Memref sig .tc .vmem S384x2048 .i8) (harg4 : arg4.IsWhole)
    (arg5 : Memref sig .tc .vmem S384x2048 .i8) (harg5 : arg5.IsWhole) (arg6 : Memref sig .tc .vmem S512x2048 .bf16) (harg6 : arg6.IsWhole)
    (arg7 : Memref sig .tc .vmem S3072x2048 .bf16) (harg7 : arg7.IsWhole) (hc0 : cond0_0 i)
    (x0 : Vec Ideal S1 .f32) (x1 : Vec Ideal S512x3072 .bf16) (x2 : Vec Ideal S384x2048 .i8) (x3 : Vec Ideal S384x2048 .i8) :
    out0_A_4 c i arg2 harg2 arg3 harg3 arg4 harg4 arg5 harg5 arg6 harg6 arg7 harg7 hc0 x0 x1 x2 x3
      = k0_pay2 x1 (panel x2 x3) (x0 only) := by
  unfold out0_A_4
  rw [View.read_writes_eq_canon _ _ _ (cover0_A_4 c i arg2 harg2 arg3 harg3 arg4 harg4 arg5 harg5 arg6 harg6 arg7 harg7 hc0 x0 x1 x2 x3),
    out_store, View.canon_unit_zero hz, scale_read,
    View.readCov_eq_canon_ld _ _ _ (scover0_A_0 c i arg2 harg2 arg3 harg3 arg4 harg4 arg5 harg5 arg6 harg6 arg7 harg7 hc0 x0 x1 x2 x3),
    ← View.read_writes_eq_canon VS0_0 VS0_0.junk _ (scover0_A_0 c i arg2 harg2 arg3 harg3 arg4 harg4 arg5 harg5 arg6 harg6 arg7 harg7 hc0 x0 x1 x2 x3)]
  have e := sout_A c i arg2 harg2 arg3 harg3 arg4 harg4 arg5 harg5 arg6 harg6 arg7 harg7 hc0 x0 x1 x2 x3
  unfold sout0_A_0 at e
  rw [e]
  simp only [View.readAt_eq_ld, harg3.read_unread, View.ld_unit_zero (S := S3072x2048) hz, View.ld_unit_zero (S := S512x3072) hz]

/-- The product and the scaling at one place: a sum over the panel's rows, times the scale. -/
theorem pay_apply (x : Vec Ideal S512x3072 .bf16) (p : Vec Ideal S3072x2048 .bf16) (s : EReal) (y : S512x2048.Idx) :
    k0_pay2 (F := Ideal) x p s y = (∑ k : Fin 3072, x (ValueIdx.ix2 (y 0) k) * p (ValueIdx.ix2 k (y 1))) * s := by
  obtain ⟨r, q, rfl⟩ : ∃ (r : Fin 512) (q : Fin 2048), y = ValueIdx.ix2 r q := ⟨y 0, y 1, ValueIdx.eq_ix2 y⟩
  unfold k0_pay2
  rw [shapeCast_self]
  show FloatOps.matmul (F := Ideal) (DotDims.plain 512 3072 2048) none x p (constant S512x2048 .f32 0x00000000#32) (ValueIdx.ix2 r q) * s = _
  rw [Ideal.matmul_plain_apply]
  exact congrArg (· * s) ((congrArg (· + _) Ideal.ofBits_zero_f32).trans (zero_add _))

end Cert.KernelIdeal.Value

end
-- ==== Proof.Linear.lean ====
/-
  The mathematics both programs compute: a linear layer whose weights are unpacked from two bit planes.
-/
module

public import proofs.«01_k».proof.Proof.Trit
public import Idealize.ShloMosaic.Lib.Pipeline.ValueKit.Basic

@[expose] public section

noncomputable section

namespace Cert.Linear

open Idealize.ShloMosaic
open Idealize.ShloMosaic.ValueIdx (ix2 ix3)

/-- The weight in row `k`, column `n`: bit `k / 384` of row `k % 384` of the two bit planes. -/
def weight (nz sg : (⟨2, ![384, 10240]⟩ : Shape).Idx → BitVec 8) (k : Fin 3072) (n : Fin 10240) : EReal :=
  Trit.value ((nz (ix2 (⟨k.val % 384, Nat.mod_lt _ (by decide)⟩ : Fin 384) n)).getLsbD (k.val / 384))
    ((sg (ix2 (⟨k.val % 384, Nat.mod_lt _ (by decide)⟩ : Fin 384) n)).getLsbD (k.val / 384))

/-- The layer's output: at every place, the row of activations times the column of weights, times the scale. -/
def output (x : (⟨3, ![8, 1024, 3072]⟩ : Shape).Idx → EReal) (nz sg : (⟨2, ![384, 10240]⟩ : Shape).Idx → BitVec 8)
    (s : (⟨0, ![]⟩ : Shape).Idx → EReal) (i : (⟨3, ![8, 1024, 10240]⟩ : Shape).Idx) : EReal :=
  (∑ k : Fin 3072, x (ix3 (i 0) (i 1) k) * weight nz sg k (i 2)) * s fun a => a.elim0

/-- Row `384 j + r` of the weights, which bit `j` of row `r` of the planes holds. -/
def rowOf (j : Fin 8) (r : Fin 384) : Fin 3072 := ⟨384 * j.val + r.val, by have := j.isLt; have := r.isLt; omega⟩

/-- The weight in row `384 j + r` is bit `j` of row `r`. -/
theorem weight_rowOf (nz sg : (⟨2, ![384, 10240]⟩ : Shape).Idx → BitVec 8) (j : Fin 8) (r : Fin 384) (n : Fin 10240) :
    weight nz sg (rowOf j r) n = Trit.value ((nz (ix2 r n)).getLsbD j.val) ((sg (ix2 r n)).getLsbD j.val) := by
  have hm : (⟨(rowOf j r).val % 384, Nat.mod_lt _ (by decide)⟩ : Fin 384) = r :=
    Fin.ext (by show (384 * j.val + r.val) % 384 = r.val; have := r.isLt; omega)
  have hd : (rowOf j r).val / 384 = j.val := by show (384 * j.val + r.val) / 384 = j.val; have := r.isLt; omega
  unfold weight
  rw [hm, hd]

/-- A sum over the rows of the weights is a sum over bits and plane rows. -/
theorem sum_rows (f : Fin 3072 → EReal) : ∑ k : Fin 3072, f k = ∑ j : Fin 8, ∑ r : Fin 384, f (rowOf j r) := by
  rw [← Fintype.sum_prod_type' fun (j : Fin 8) (r : Fin 384) => f (rowOf j r)]
  refine (Fintype.sum_equiv (finProdFinEquiv : Fin 8 × Fin 384 ≃ Fin (8 * 384)) _ f fun p => congrArg f (Fin.ext ?_)).symm
  show 384 * p.1.val + p.2.val = p.2.val + 384 * p.1.val
  omega

end Cert.Linear

end
-- ==== Proof.Array.lean ====
/-
  What the kernel's result array holds after the grid has run: at every place, the row of the activations times the column
  of unpacked weights, times the scale.
-/
module

public import proofs.«01_k».proof.Proof.Blocks
public import proofs.«01_k».proof.Proof.Linear
public import proofs.«01_k».proof.Proof.Gen.KernelIdeal.Frame

@[expose] public section

noncomputable section

namespace Cert.KernelIdeal.Value

open Cert.KernelIdeal Cert.KernelIdeal.Gen Idealize.ShloMosaic Idealize.ShloMosaic.TcCoe Idealize.SL.Sem
open Idealize.ShloMosaic.ValueIdx (ix2 eq_ix2)
open Idealize.ShloMosaic.Pipeline (Dat)
open Cert.Linear (weight)

variable (m : (ℓ : Loc nD τ sig) → Buf (Elt Ideal) ℓ)

/-- The whole product: activations times weights, scaled. -/
def product (x : Vec Ideal S8192x3072 .bf16) (nz sg : Vec Ideal S384x10240 .i8) (s : EReal) : Vec Ideal S8192x10240 .bf16 :=
  fun i => (∑ k : Fin 3072, x (ix2 (i 0) k) * weight nz sg k (i 1)) * s

/-- The block indices of the five windows: the row block is `t % 16`, the column block `t / 16`. -/
theorem index_facts : ∀ t : Fin cfg0.N,
    (win0_1.index t (0 : Fin 2) = t.val % 16 ∧ win0_1.index t (1 : Fin 2) = 0)
    ∧ (win0_2.index t (0 : Fin 2) = 0 ∧ win0_2.index t (1 : Fin 2) = t.val / 16)
    ∧ (win0_3.index t (0 : Fin 2) = 0 ∧ win0_3.index t (1 : Fin 2) = t.val / 16)
    ∧ (win0_4.index t (0 : Fin 2) = t.val % 16 ∧ win0_4.index t (1 : Fin 2) = t.val / 16) :=
  (by decide +kernel : ∀ t : Fin grid0.N, _)

/-- A point's number is below 80. -/
theorem point_lt (t : Fin cfg0.N) : t.val < 80 := lt_of_lt_of_eq t.isLt N_0

/-- The column of the whole array at column `q` of the column block of point `n`. -/
def column (n : ℕ) (hn : n < cfg0.N) (q : Fin 2048) : Fin 10240 :=
  ⟨2048 * (n / 16) + q.val, by have := q.isLt; have := point_lt ⟨n, hn⟩; simp only at this; omega⟩

/-- The row of the whole array at row `r` of the row block of point `n`. -/
def row (n : ℕ) (r : Fin 512) : Fin 8192 := ⟨512 * (n % 16) + r.val, by have := r.isLt; omega⟩

/-- The scale's block is the scale. -/
theorem scale_block (c : Dev nD) (t : Fin cfg0.N) : (iblk m c 0 t : Vec Ideal S1 .f32) only = V m c main_v0 only := by
  refine congrArg (V m c main_v0) (funext fun a => Fin.ext ?_)
  have h : ∀ k : S1.Idx, (k a).val = 0 := fun k => by
    have h1 : (k a).val < 1 := by have := (k a).isLt; fin_cases a; exact this
    omega
  exact (h _).trans (h _).symm

/-- A row block of the activations. -/
theorem rows_block (c : Dev nD) (t : Fin cfg0.N) (r : Fin 512) (k : Fin 3072) :
    (iblk m c 1 t : Vec Ideal S512x3072 .bf16) (ix2 r k) = V m c main_v1 (ix2 (row t.val r) k) := by
  obtain ⟨⟨e0, e1⟩, -⟩ := index_facts t
  refine congrArg (V m c main_v1) (funext fun a => Fin.ext ?_)
  match a with
  | ⟨0, _⟩ => show win0_1.index t (0 : Fin 2) * 512 + 1 * r.val = 512 * (t.val % 16) + r.val; rw [e0]; omega
  | ⟨1, _⟩ => show win0_1.index t (1 : Fin 2) * 3072 + 1 * k.val = k.val; rw [e1]; omega

/-- A column block of the first bit plane. -/
theorem nz_block (c : Dev nD) (t : Fin cfg0.N) (r : Fin 384) (q : Fin 2048) :
    (iblk m c 2 t : Vec Ideal S384x2048 .i8) (ix2 r q) = V m c main_arg1 (ix2 r (column t.val t.isLt q)) := by
  obtain ⟨-, ⟨e0, e1⟩, -⟩ := index_facts t
  refine congrArg (V m c main_arg1) (funext fun a => Fin.ext ?_)
  match a with
  | ⟨0, _⟩ => show win0_2.index t (0 : Fin 2) * 384 + 1 * r.val = r.val; rw [e0]; omega
  | ⟨1, _⟩ => show win0_2.index t (1 : Fin 2) * 2048 + 1 * q.val = 2048 * (t.val / 16) + q.val; rw [e1]; omega

/-- A column block of the second bit plane. -/
theorem sg_block (c : Dev nD) (t : Fin cfg0.N) (r : Fin 384) (q : Fin 2048) :
    (iblk m c 3 t : Vec Ideal S384x2048 .i8) (ix2 r q) = V m c main_arg2 (ix2 r (column t.val t.isLt q)) := by
  obtain ⟨-, -, ⟨e0, e1⟩, -⟩ := index_facts t
  refine congrArg (V m c main_arg2) (funext fun a => Fin.ext ?_)
  match a with
  | ⟨0, _⟩ => show win0_3.index t (0 : Fin 2) * 384 + 1 * r.val = r.val; rw [e0]; omega
  | ⟨1, _⟩ => show win0_3.index t (1 : Fin 2) * 2048 + 1 * q.val = 2048 * (t.val / 16) + q.val; rw [e1]; omega

/-- The unpacked panel of the column block of point `n`. -/
def panelAt (c : Dev nD) (n : ℕ) (hn : n < cfg0.N) : Vec Ideal S3072x2048 .bf16 := fun y =>
  weight (V m c main_arg1) (V m c main_arg2) (y 0) (column n hn (y 1))

/-- The panel a point unpacks from its bit-plane blocks is its column block's. -/
theorem panel_block (c : Dev nD) (t : Fin cfg0.N) :
    panel (iblk m c 2 t) (iblk m c 3 t) = panelAt m c t.val t.isLt := by
  funext y
  obtain ⟨k, q, rfl⟩ : ∃ (k : Fin 3072) (q : Fin 2048), y = ix2 k q := ⟨y 0, y 1, eq_ix2 y⟩
  have e : ∀ z : S384x2048.Idx, z = ix2 (⟨k.val % 384, Nat.mod_lt _ (by decide)⟩ : Fin 384) q →
      Trit.value (((iblk m c 2 t : Vec Ideal S384x2048 .i8) z).getLsbD (k.val / 384))
        (((iblk m c 3 t : Vec Ideal S384x2048 .i8) z).getLsbD (k.val / 384)) = panelAt m c t.val t.isLt (ix2 k q) := by
    rintro z rfl
    rw [nz_block, sg_block]
    rfl
  exact e _ (funext fun a => match a with | ⟨0, _⟩ => rfl | ⟨1, _⟩ => rfl)

/-- The panel depends on the column block alone. -/
theorem panelAt_congr (c : Dev nD) (n n' : ℕ) (hn : n < cfg0.N) (hn' : n' < cfg0.N) (h : n / 16 = n' / 16) :
    panelAt m c n hn = panelAt m c n' hn' := by
  have e : ∀ q, column n hn q = column n' hn' q := fun q =>
    Fin.ext (by show 2048 * (n / 16) + q.val = 2048 * (n' / 16) + q.val; rw [h])
  funext y
  exact congrArg (weight _ _ (y 0)) (e (y 1))

/-- A point that unpacks leaves its column block's panel in the panel's buffer. -/
theorem scratch_A (c : Dev nD) (t : Fin cfg0.N) (h : t.val % 16 = 0) :
    (outsAt0 m c t.val t.isLt).2 = panelAt m c t.val t.isLt := by
  rw [outsAt0_A m c t h]
  dsimp only
  rw [sout_A, panel_block]

/-- Any other point leaves the panel's buffer as it found it. -/
theorem scratch_B (c : Dev nD) (t : Fin cfg0.N) (h : ¬t.val % 16 = 0) :
    (outsAt0 m c t.val t.isLt).2 = (outsAt0 m c (t.val - 1) (Nat.lt_of_le_of_lt (Nat.sub_le _ _) t.isLt)).2 := by
  rw [outsAt0_B m c t h]
  dsimp only
  rw [sout0_B_0]

/-- After every point the panel's buffer holds the panel of the point's column block. -/
theorem scratch_eq (c : Dev nD) : ∀ (n : ℕ) (hn : n < cfg0.N), (outsAt0 m c n hn).2 = panelAt m c n hn
  | 0, hn => scratch_A m c ⟨0, hn⟩ (Nat.zero_mod _)
  | n + 1, hn =>
    if h : (n + 1) % 16 = 0 then scratch_A m c ⟨n + 1, hn⟩ h
    else (scratch_B m c ⟨n + 1, hn⟩ h).trans
      ((scratch_eq c n (Nat.lt_of_succ_lt hn)).trans (panelAt_congr m c _ _ _ _ (by omega)))

/-- After every point its output block holds its rows times its column block's panel, scaled. -/
theorem block_eq (c : Dev nD) (t : Fin cfg0.N) :
    (outsAt0 m c t.val t.isLt).1 = k0_pay2 (iblk m c 1 t) (panelAt m c t.val t.isLt) (V m c main_v0 only) := by
  by_cases h : t.val % 16 = 0
  · rw [outsAt0_A m c t h]
    dsimp only
    rw [out_A, panel_block, scale_block]
  · rw [outsAt0_B m c t h]
    dsimp only
    rw [out_B, scratch_eq, scale_block, panelAt_congr m c (t.val - 1) t.val _ t.isLt (by omega)]

/-- The product of the arrays the kernel is started on. -/
abbrev result (c : Dev nD) : Vec Ideal S8192x10240 .bf16 :=
  product (V m c main_v1) (V m c main_arg1) (V m c main_arg2) (V m c main_v0 only)

/-- What a point writes back is its block of the product. -/
theorem flushed_eq (c : Dev nD) (t : Fin cfg0.N) (hf : (cfg0.win 4).flush t = true) :
    (dats m 0 c).flushed 4 t = ((cfg0.win 4).blk t).view.read (Elt Ideal) (result m c) := by
  show (cfg0.win 4).cut (grid0.coords t) ((dats m 0 c).after 4 t) = _
  rw [after0_4, block_eq]
  obtain ⟨-, -, -, e0, e1⟩ := index_facts t
  funext y
  show k0_pay2 (iblk m c 1 t) (panelAt m c t.val t.isLt) (V m c main_v0 only) ((cfg0.win 4).xinj (grid0.coords t) y)
    = result m c (((cfg0.win 4).blk t).view.emb y)
  obtain ⟨r, q, hr⟩ : ∃ (r : Fin 512) (q : Fin 2048), (cfg0.win 4).xinj (grid0.coords t) y = ix2 r q :=
    ⟨(cfg0.win 4).xinj (grid0.coords t) y 0, (cfg0.win 4).xinj (grid0.coords t) y 1, eq_ix2 _⟩
  have r0 : (y 0).val = r.val := congrArg (fun z : S512x2048.Idx => (z 0).val) hr
  have q0 : (y 1).val = q.val := congrArg (fun z : S512x2048.Idx => (z 1).val) hr
  have hi : ((cfg0.win 4).blk t).view.emb y = ix2 (row t.val r) (column t.val t.isLt q) := by
    funext a; apply Fin.ext
    match a with
    | ⟨0, _⟩ => show win0_4.index t (0 : Fin 2) * 512 + 1 * (y 0).val = 512 * (t.val % 16) + r.val; rw [e0, r0]; omega
    | ⟨1, _⟩ => show win0_4.index t (1 : Fin 2) * 2048 + 1 * (y 1).val = 2048 * (t.val / 16) + q.val; rw [e1, q0]; omega
  rw [hr, hi, pay_apply]
  refine congrArg (· * _) (Finset.sum_congr rfl fun k _ => ?_)
  exact congrArg (· * _) (rows_block m c t r k)

/-- An index of the array is in point `t`'s block iff each coordinate is in the block's range on its axis. -/
theorem mem_block (t : Fin cfg0.N) (i : S8192x10240.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v2).slice (win0_4.rect t)).set ↔ _
  rw [View.set_slice_whole, Rect.mem_set_unit]
  exact Iff.rfl

/-- Every place of the array is in some point's block. -/
theorem covered (i : S8192x10240.Idx) : ∃ t : Fin cfg0.N, (cfg0.win 4).flush t = true ∧ i ∈ ((cfg0.win 4).blk t).view.set := by
  have h0 : (i 0).val < 8192 := (i 0).isLt
  have h1 : (i 1).val < 10240 := (i 1).isLt
  obtain ⟨t, ht⟩ : ∃ t : Fin cfg0.N, t.val = (i 0).val / 512 + 16 * ((i 1).val / 2048) :=
    ⟨⟨_, lt_of_lt_of_eq (by omega) N_0.symm⟩, rfl⟩
  obtain ⟨-, -, -, e0, e1⟩ := index_facts t
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- After the grid the result array holds the whole product. -/
theorem array_eq (c : Dev nD) : (dats m 0 c).arrAt 4 cfg0.N = result m c :=
  (dats m 0 c).arrAt_eq_of_cover 4 _ (flushed_eq m c) covered

end Cert.KernelIdeal.Value

end
-- ==== Proof.Result.lean ====
/-
  What the kernel program leaves in its result: the linear layer's output, of the arrays it was called with.
-/
module

public import proofs.«01_k».proof.Proof.Array
public import Idealize.ShloMosaic.Lib.StableHlo.Run

@[expose] public section

noncomputable section

namespace Cert.KernelIdeal.Value

open Cert.KernelIdeal Cert.KernelIdeal.Gen Idealize.ShloMosaic Idealize.ShloMosaic.TcCoe Idealize.SL.Sem
open Idealize.ShloMosaic.StableHlo
open Idealize.ShloMosaic.ValueIdx (ix2 ix3 eq_ix3)

variable (m : (ℓ : Loc nD τ sig) → Buf (Elt Ideal) ℓ) (ρ : Dev nD → PrngReg)

/-- The grid is started on the activations with the batch and sequence axes joined. -/
theorem V_main_v1 (c : Dev nD) :
    V m c main_v1 = shapeCast S8192x3072 (m ((c : Thread nD τ).loc main_arg0)) shapeCasts_S8x1024x3072_S8192x3072 := by
  dsimp only [V, V0, hostOps0, List.flatten_cons, List.flatten_nil, List.append_nil, List.cons_append, List.nil_append]
  after_results_simp
  rfl

/-- The grid is started on the scale as an array of one element. -/
theorem V_main_v0 (c : Dev nD) : V m c main_v0 = shapeCast S1 (m ((c : Thread nD τ).loc main_arg3)) shapeCasts_S_S1 := by
  dsimp only [V, V0, hostOps0, List.flatten_cons, List.flatten_nil, List.append_nil, List.cons_append, List.nil_append]
  after_results_simp
  rfl

/-- The program's result is the grid's product with the row axis split again. -/
theorem end_v3 (c : Dev nD) : Pipeline.afterTail₀ cfgs (dats m) 0 (V0 m) [hostOps1] c main_v3
    = shapeCast S8x1024x10240 (result m c) shapeCasts_S8192x10240_S8x1024x10240 := by
  unfold Pipeline.afterTail₀
  dsimp only [hostOps1, List.flatten_cons, List.flatten_nil, List.append_nil, List.cons_append, List.nil_append]
  after_results_simp
  have e : (Pipeline.withArrays (cfgs 0).spec c (V0 m c) fun w => (dats m 0 c).arrAt w (cfgs 0).N) (Proc.devRef .tc main_v2) = result m c :=
    (Pipeline.withArrays_arr spec0 launch0.win.arr_inj c (V0 m c) (fun w => (dats m 0 c).arrAt w cfg0.N) 4).trans (array_eq m c)
  rw [e]
  rfl

/-- The layer's output of the arrays the program is called with. -/
def answer (c : Dev nD) : Vec Ideal S8x1024x10240 .bf16 :=
  Linear.output (m ((c.tc : Thread nD τ).loc main_arg0)) (m ((c.tc : Thread nD τ).loc main_arg1))
    (m ((c.tc : Thread nD τ).loc main_arg2)) (m ((c.tc : Thread nD τ).loc main_arg3))

/-- The joined row of batch `b`, position `s`. -/
def joined (b : Fin 8) (s : Fin 1024) : Fin 8192 := ⟨1024 * b.val + s.val, by have := b.isLt; have := s.isLt; omega⟩

/-- A joined row of the activations. -/
theorem rows_joined (c : Dev nD) (b : Fin 8) (s : Fin 1024) (k : Fin 3072) :
    (V m c main_v1 : Vec Ideal S8192x3072 .bf16) (ix2 (joined b s) k)
      = (m ((c.tc : Thread nD τ).loc main_arg0) : Vec Ideal S8x1024x3072 .bf16) (ix3 b s k) := by
  rw [V_main_v1]
  refine shapeCast_apply _ _ _ (ix3 b s k) ?_
  rw [Shape.rowMajor_val_three, Shape.rowMajor_val_two]
  show (b.val * 1024 + s.val) * 3072 + k.val = (1024 * b.val + s.val) * 3072 + k.val
  omega

/-- The scale the grid reads is the scale the program is called with. -/
theorem scale_only (c : Dev nD) : (V m c main_v0 : Vec Ideal S1 .f32) only
    = (m ((c.tc : Thread nD τ).loc main_arg3) : Vec Ideal S_ .f32) (fun a => a.elim0) := by
  rw [V_main_v0]
  exact congrArg (m ((c.tc : Thread nD τ).loc main_arg3)) (funext fun a => a.elim0)

/-- The grid's product, its rows split, is the layer's output. -/
theorem result_eq (c : Dev nD) :
    shapeCast S8x1024x10240 (result m c) shapeCasts_S8192x10240_S8x1024x10240 = answer m c := by
  funext i
  obtain ⟨b, s, n, rfl⟩ : ∃ (b : Fin 8) (s : Fin 1024) (n : Fin 10240), i = ix3 b s n := ⟨i 0, i 1, i 2, eq_ix3 i⟩
  refine (shapeCast_apply (result m c) _ _ (ix2 (joined b s) n) ?_).trans ?_
  · rw [Shape.rowMajor_val_three, Shape.rowMajor_val_two]
    show (1024 * b.val + s.val) * 10240 + n.val = (b.val * 1024 + s.val) * 10240 + n.val
    omega
  · unfold result
    rw [scale_only, V_main_arg1, V_main_arg2]
    exact congrArg (· * _) (Finset.sum_congr rfl fun k _ => congrArg (· * _) (rows_joined m c b s k))

/-- From any memory the kernel program ends with the layer's output in its result and its arguments unchanged. -/
theorem run : θ_run defs (onTc (τ := τ) (main (F := Ideal))) ⟨m, fun _ => 0, ρ⟩ fun r => ∀ c : Dev nD,
      r.2.mem ((c.tc : Thread nD τ).loc main_v3) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun r h c => ⟨((h.1 c).2 main_v3 (Pipeline.mem_restRefs_of main_v3 (by decide) (by decide))).trans
      ((end_v3 m c).trans (result_eq m c)), h.2 c⟩)
    (θ_run_and (run_main m ρ) (unchanged m ρ))

end Cert.KernelIdeal.Value

end
-- ==== Proof.Reference.lean ====
/-
  What the reference program leaves in its result: the linear layer's output, of the arrays it was called with.
-/
module

public import proofs.«01_k».proof.Proof.Linear
public import proofs.«01_k».proof.Proof.Gen.ReferenceIdeal.Run
public import Idealize.ShloMosaic.Lib.Pointwise.Contract

@[expose] public section

noncomputable section

namespace Cert.ReferenceIdeal.Value

open Cert.ReferenceIdeal Cert.ReferenceIdeal.Gen Idealize.ShloMosaic.TcCoe Idealize.SL.Sem
open Idealize.ShloMosaic hiding ix1 ix2 ix3 ix4 eq_ix3
open Idealize.ShloMosaic.StableHlo
open Idealize.ShloMosaic.ValueIdx (ix1 ix2 ix3 ix4 eq_ix3)

variable (m : (ℓ : Loc nD τ sig) → Buf (Elt Ideal) ℓ) (ρ : Dev nD → PrngReg)

/-- Bit `j` of every plane row, for every `j`, as integer words. -/
def bits (p : Vec Ideal S384x10240 .i8) : Vec Ideal S8x384x10240 .i32 :=
  andi (Host.shrsi
      (broadcastInDim S8x384x10240 ![0, 1, 2] bcast_S1x384x10240_S8x384x10240_0_1_2
        (broadcastInDim S1x384x10240 ![1, 2] bcast_S384x10240_S1x384x10240_1_2 (extui 32 p natLt_8_32)))
      (broadcastInDim S8x384x10240 ![0, 1, 2] bcast_S8x1x1_S8x384x10240_0_1_2
        (broadcastInDim S8x1x1 ![0] bcast_S8_S8x1x1_0 (iotaInDim S8 32 0))))
    (broadcastInDim S8x384x10240 ![] bcast_S_S8x384x10240 (constantI S_ 32 1#32))

/-- The unpacked weights: the nonzero bit times one less twice the sign bit. -/
def weights (nz sg : Vec Ideal S384x10240 .i8) : Vec Ideal S8x384x10240 .bf16 :=
  sitofp (F := Ideal) .bf16 (muli (bits nz)
    (subi (broadcastInDim S8x384x10240 ![] bcast_S_S8x384x10240 (constantI S_ 32 1#32))
      (muli (broadcastInDim S8x384x10240 ![] bcast_S_S8x384x10240 (constantI S_ 32 2#32)) (bits sg))))

/-- The word of bit `j` of row `r`, column `n`. -/
theorem bits_apply (p : Vec Ideal S384x10240 .i8) (j : Fin 8) (r : Fin 384) (n : Fin 10240) :
    bits p (ix3 j r n) = IntOp.andi (IntOp.shrsi .host ((p (ix2 r n)).setWidth 32) (BitVec.ofNat 32 j.val)) 1#32 := by
  have hp : broadcastInDim S8x384x10240 ![0, 1, 2] bcast_S1x384x10240_S8x384x10240_0_1_2
        (broadcastInDim S1x384x10240 ![1, 2] bcast_S384x10240_S1x384x10240_1_2 (extui 32 p natLt_8_32)) (ix3 j r n)
      = (p (ix2 r n)).setWidth 32 := by
    rw [broadcastInDim_apply _ _ _ _ (ix3 (0 : Fin 1) r n) (fun a => match a with | ⟨0, _⟩ => rfl | ⟨1, _⟩ => rfl | ⟨2, _⟩ => rfl),
      broadcastInDim_apply _ _ _ _ (ix2 r n) (fun a => match a with | ⟨0, _⟩ => rfl | ⟨1, _⟩ => rfl)]
    rfl
  have hj : broadcastInDim S8x384x10240 ![0, 1, 2] bcast_S8x1x1_S8x384x10240_0_1_2
        (broadcastInDim S8x1x1 ![0] bcast_S8_S8x1x1_0 (iotaInDim S8 32 0)) (ix3 j r n) = BitVec.ofNat 32 j.val := by
    rw [broadcastInDim_apply _ _ _ _ (ix3 j (0 : Fin 1) (0 : Fin 1)) (fun a => match a with | ⟨0, _⟩ => rfl | ⟨1, _⟩ => rfl | ⟨2, _⟩ => rfl),
      broadcastInDim_apply _ _ _ _ (ix1 j) (fun a => match a with | ⟨0, _⟩ => rfl)]
    rfl
  show IntOp.andi (IntOp.shrsi .host (broadcastInDim S8x384x10240 _ _ _ (ix3 j r n)) (broadcastInDim S8x384x10240 _ _ _ (ix3 j r n))) 1#32 = _
  rw [hp, hj]

/-- The unpacked weights are the layer's. -/
theorem weights_apply (nz sg : Vec Ideal S384x10240 .i8) (j : Fin 8) (r : Fin 384) (n : Fin 10240) :
    weights nz sg (ix3 j r n) = Linear.weight nz sg (Linear.rowOf j r) n := by
  rw [Linear.weight_rowOf, ← Trit.word_value j (nz (ix2 r n)) (sg (ix2 r n)), ← bits_apply, ← bits_apply]
  rfl

/-- The activations with each row cut into eight stretches of 384. -/
theorem rows_cut (x : Vec Ideal S8x1024x3072 .bf16) (b : Fin 8) (s : Fin 1024) (j : Fin 8) (r : Fin 384) :
    shapeCast S8x1024x8x384 x shapeCasts_S8x1024x3072_S8x1024x8x384 (ix4 b s j r) = x (ix3 b s (Linear.rowOf j r)) := by
  refine shapeCast_apply _ _ _ _ ?_
  rw [Shape.rowMajor_val_three, Shape.rowMajor_val_four]
  show (b.val * 1024 + s.val) * 3072 + (384 * j.val + r.val) = ((b.val * 1024 + s.val) * 8 + j.val) * 384 + r.val
  omega

/-- The reference's contraction at a place: a sum over bits and plane rows. -/
theorem dot_apply (x : Vec Ideal S8x1024x8x384 .bf16) (w : Vec Ideal S8x384x10240 .bf16) (b : Fin 8) (s : Fin 1024) (n : Fin 10240) :
    (Host.dotGeneral (F := Ideal) (φ₁ := .bf16) (φ₂ := .bf16) dot_S8x1024x8x384_S8x384x10240_S8x1024x10240_23_01_01_2_n_n none x w : Vec Ideal S8x1024x10240 .f32) (ix3 b s n)
      = ∑ j : Fin 8, ∑ r : Fin 384, x (ix4 b s j r) * w (ix3 j r n) := by
  refine (Ideal.matmul_apply₂_of dot_S8x1024x8x384_S8x384x10240_S8x1024x10240_23_01_01_2_n_n rfl rfl rfl x w (fun _ => 0) (ix3 b s n)
    (fun j r => ix4 b s j r) (fun j r => ix3 j r n) (fun j r => ?_) (fun j r => ?_)).trans (zero_add _)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl

/-- The reference's composed term is the layer's output. -/
theorem term_eq (x : Vec Ideal S8x1024x3072 .bf16) (nz sg : Vec Ideal S384x10240 .i8) (s : Vec Ideal S_ .f32) :
    (truncf .bf16 (mulf (Host.dotGeneral (F := Ideal) (φ₁ := .bf16) (φ₂ := .bf16) dot_S8x1024x8x384_S8x384x10240_S8x1024x10240_23_01_01_2_n_n none
        (shapeCast S8x1024x8x384 x shapeCasts_S8x1024x3072_S8x1024x8x384) (weights nz sg))
      (broadcastInDim S8x1024x10240 ![] bcast_S_S8x1024x10240 s)) bitsLt_bf16_f32 : Vec Ideal S8x1024x10240 .bf16)
      = Linear.output x nz sg s := by
  funext i
  obtain ⟨b, t, n, rfl⟩ : ∃ (b : Fin 8) (t : Fin 1024) (n : Fin 10240), i = ix3 b t n := ⟨i 0, i 1, i 2, eq_ix3 i⟩
  show (Host.dotGeneral (F := Ideal) (φ₁ := .bf16) (φ₂ := .bf16) dot_S8x1024x8x384_S8x384x10240_S8x1024x10240_23_01_01_2_n_n none
        (shapeCast S8x1024x8x384 x shapeCasts_S8x1024x3072_S8x1024x8x384) (weights nz sg) : Vec Ideal S8x1024x10240 .f32) (ix3 b t n)
      * broadcastInDim S8x1024x10240 ![] bcast_S_S8x1024x10240 s (ix3 b t n)
    = (∑ k : Fin 3072, x (ix3 b t k) * Linear.weight nz sg k n) * s fun a => a.elim0
  rw [dot_apply, broadcastInDim_apply _ _ _ _ (fun a => a.elim0) (fun a => a.elim0), Linear.sum_rows]
  refine congrArg (· * _) (Finset.sum_congr rfl fun j _ => Finset.sum_congr rfl fun r _ => ?_)
  rw [rows_cut, weights_apply]

/-- The layer's output of the arrays the program is called with. -/
def answer (c : Dev nD) : Vec Ideal S8x1024x10240 .bf16 :=
  Linear.output (m ((c.tc : Thread nD τ).loc main_arg0)) (m ((c.tc : Thread nD τ).loc main_arg1))
    (m ((c.tc : Thread nD τ).loc main_arg2)) (m ((c.tc : Thread nD τ).loc main_arg3))

/-- From any memory the reference program ends with the layer's output in its result and its arguments unchanged. -/
theorem run_answer : θ_run defs (onTc (τ := τ) (main (F := Ideal))) ⟨m, fun _ => 0, ρ⟩ fun r => ∀ c : Dev nD,
      r.2.mem ((c.tc : Thread nD τ).loc main_v26) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (term_eq _ _ _ _), (h c).2⟩) (run (F := Ideal) m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel runs, leaves its arguments unchanged and every counter at zero. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- So does the idealized reference, which declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel is the kernel's own text: no operation was rewritten. -/
theorem preserves : Cert.preserves_Kernel_KernelIdeal := trivial

/-- From arguments that agree, the idealized kernel and the idealized reference both end with the linear layer's output. -/
theorem algebraic : Cert.algebraic_KernelIdeal_ReferenceIdeal := by
  intro m ρ m' ρ' _ hagree
  refine ⟨Cert.KernelIdeal.Value.answer m, Cert.KernelIdeal.Value.run m ρ, ?_⟩
  refine (θ_run Cert.ReferenceIdeal.defs _ _).mono (fun _ h c => ⟨(h c).1.trans ?_, (h c).2⟩)
    (Cert.ReferenceIdeal.Value.run_answer m' ρ')
  unfold Cert.ReferenceIdeal.Value.answer Cert.KernelIdeal.Value.answer
  obtain ⟨h0, h1, h2, h3⟩ := hagree c
  rw [h0, h1, h2, h3]

/-- All the claims. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
